-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.named_const.Statement Cert.KernelIdeal.κ "neg_conf" .f32 0xBF666666#32 ((-9 / 10 : ℝ) : EReal)
  ∧ IdealRules.named_const.Statement Cert.KernelIdeal.κ "neg_eps" .f32 0xB651BA72#32 ((-1 / 319980 : ℝ) : EReal)
  ∧ IdealRules.named_const.Statement Cert.KernelIdeal.κ "eps" .f32 0x3651BA72#32 ((1 / 319980 : ℝ) : EReal)
  ∧ IdealRules.named_const.Statement Cert.KernelIdeal.κ "c0" .f32 0xBFAE63F8#32 (((1 / 10) * (Real.log (129140163 / 106660000000000)) : ℝ) : EReal)

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal_pre_in_range (hKernelIdeal := hKernelIdeal) (hReferenceIdeal := hReferenceIdeal) (hPre_in_range := hPre_in_range)
-- ==== Pre_in_range.lean ====
abbrev S4096x32000 : Shape := ⟨2, ![4096, 32000]⟩
abbrev S4096 : Shape := ⟨1, ![4096]⟩
abbrev S_ : Shape := ⟨0, ![]⟩
abbrev S4096x1 : Shape := ⟨2, ![4096, 1]⟩
abbrev S12288 : Shape := ⟨1, ![12288]⟩

class Facts : Prop where
  bcast_S_S4096 : S_.BroadcastsInDim S4096 (![] : Fin 0 → Fin S4096.rank)
  slices_S4096x32000_S4096x1_0_0 : S4096x32000.Slices ![0, 0] S4096x1
  shapeCasts_S4096x1_S4096 : S4096x1.ShapeCasts S4096
  concatenates_S4096_S4096_S4096_S12288_d0 : Shape.Concatenates [S4096, S4096, S4096] S12288 0

variable [Facts]

def fn {F : FTy → Type} [FloatOps F] (main_arg0 : FVec F S4096x32000 .f32) (main_arg1 : IVec S4096 32) : IVec S12288 1 :=
  let main_c : IVec S_ 32 := constantI S_ 32 0#32
  let main_v0 : IVec S4096 32 := broadcastInDim S4096 ![] bcast_S_S4096 main_c
  let main_v1 : IVec S4096 1 := cmpi .sge main_arg1 main_v0
  let main_c_0 : IVec S_ 32 := constantI S_ 32 32000#32
  let main_v2 : IVec S4096 32 := broadcastInDim S4096 ![] bcast_S_S4096 main_c_0
  let main_v3 : IVec S4096 1 := cmpi .slt main_arg1 main_v2
  let main_c_1 : IVec S_ 32 := constantI S_ 32 0#32
  let main_v4 : IVec S4096 32 := broadcastInDim S4096 ![] bcast_S_S4096 main_c_1
  let main_v5 : IVec S4096 1 := cmpi .eq main_arg1 main_v4
  let main_v6 : FVec F S4096x1 .f32 := (extractStridedSlice S4096x1 ![0, 0] · slices_S4096x32000_S4096x1_0_0) main_arg0
  let main_v7 : FVec F S4096 .f32 := shapeCast S4096 main_v6 shapeCasts_S4096x1_S4096
  let main_v8 : FVec F S4096 .f32 := Host.absf main_v7
  let main_cst : FVec F S_ .f32 := constant S_ .f32 0x7F800000#32
  let main_v9 : FVec F S4096 .f32 := broadcastInDim S4096 ![] bcast_S_S4096 main_cst
  let main_v10 : IVec S4096 1 := cmpf .olt main_v8 main_v9
  let main_v11 : IVec S4096 1 := ori main_v5 main_v10
  let main_v12 : IVec S12288 1 := concatenate S12288 0 [⟨S4096, main_v1⟩, ⟨S4096, main_v3⟩, ⟨S4096, main_v11⟩] concatenates_S4096_S4096_S4096_S12288_d0
  main_v12
-- ==== Kernel.lean ====
abbrev S4096x32000 : Shape := ⟨2, ![4096, 32000]⟩
abbrev S4096 : Shape := ⟨1, ![4096]⟩
abbrev S4x1x1024 : Shape := ⟨3, ![4, 1, 1024]⟩
abbrev S4x1x1 : Shape := ⟨3, ![4, 1, 1]⟩
abbrev S_ : Shape := ⟨0, ![]⟩
abbrev S1x1x1024 : Shape := ⟨3, ![1, 1, 1024]⟩
abbrev S1024x6400 : Shape := ⟨2, ![1024, 6400]⟩
abbrev S1x1x1 : Shape := ⟨3, ![1, 1, 1]⟩
abbrev S1024 : Shape := ⟨1, ![1024]⟩
abbrev S1024x1 : Shape := ⟨2, ![1024, 1]⟩
abbrev S1x1024 : Shape := ⟨2, ![1, 1024]⟩
abbrev S1 : Shape := ⟨1, ![1]⟩
abbrev S1x1 : Shape := ⟨2, ![1, 1]⟩

abbrev nBuf : Space → Nat
  | .hbm => 6
  | .vmem => 6
  | .smem => 0
  | _ => 0

abbrev bufTy : (tb : Table) → Fin (tcTables nBuf tb) → BufTy
  | .hbm, ⟨0, _⟩ => ⟨S4096x32000, .f32⟩
  | .hbm, ⟨1, _⟩ => ⟨S4096, .i32⟩
  | .hbm, ⟨2, _⟩ => ⟨S4x1x1024, .i32⟩
  | .hbm, ⟨3, _⟩ => ⟨S4x1x1, .f32⟩
  | .hbm, ⟨4, _⟩ => ⟨S_, .f32⟩
  | .hbm, ⟨5, _⟩ => ⟨S_, .f32⟩
  | .local _ .vmem, ⟨0, _⟩ => ⟨S1x1x1024, .i32⟩
  | .local _ .vmem, ⟨1, _⟩ => ⟨S1x1x1024, .i32⟩
  | .local _ .vmem, ⟨2, _⟩ => ⟨S1024x6400, .f32⟩
  | .local _ .vmem, ⟨3, _⟩ => ⟨S1024x6400, .f32⟩
  | .local _ .vmem, ⟨4, _⟩ => ⟨S1x1x1, .f32⟩
  | .local _ .vmem, ⟨5, _⟩ => ⟨S1x1x1, .f32⟩
  | _, _ => ⟨S4096x32000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_call0_cst : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 5], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x1024 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x6400 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== KernelIdeal.lean ====
variable {F : FTy → Type} [FloatOps F] [Named F]
def κ : String → Option EReal := fun
  | "c0" => some (((1 / 10) * (Real.log (129140163 / 106660000000000)) : ℝ) : EReal)
  | "eps" => some ((1 / 319980 : ℝ) : EReal)
  | "neg_conf" => some ((-9 / 10 : ℝ) : EReal)
  | "neg_eps" => some ((-1 / 319980 : ℝ) : EReal)
  | _ => none
-- ==== ReferenceIdeal.lean ====
abbrev S4096x32000 : Shape := ⟨2, ![4096, 32000]⟩
abbrev S4096 : Shape := ⟨1, ![4096]⟩
abbrev S_ : Shape := ⟨0, ![]⟩
abbrev S4096x1 : Shape := ⟨2, ![4096, 1]⟩
abbrev S4096x2 : Shape := ⟨2, ![4096, 2]⟩
abbrev S1 : Shape := ⟨1, ![1]⟩

abbrev nBuf : Space → Nat
  | .hbm => 63
  | .vmem => 0
  | .smem => 0
  | _ => 0

abbrev bufTy : (tb : Table) → Fin (tcTables nBuf tb) → BufTy
  | .hbm, ⟨0, _⟩ => ⟨S4096x32000, .f32⟩
  | .hbm, ⟨1, _⟩ => ⟨S4096, .i32⟩
  | .hbm, ⟨2, _⟩ => ⟨S_, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S4096x32000, .f32⟩
  | .hbm, ⟨10, _⟩ => ⟨S4096, .i32⟩
  | .hbm, ⟨11, _⟩ => ⟨S_, .i32⟩
  | .hbm, ⟨12, _⟩ => ⟨S4096, .i32⟩
  | .hbm, ⟨13, _⟩ => ⟨S4096, .i1⟩
  | .hbm, ⟨14, _⟩ => ⟨S_, .i32⟩
  | .hbm, ⟨15, _⟩ => ⟨S4096, .i32⟩
  | .hbm, ⟨16, _⟩ => ⟨S4096, .i32⟩
  | .hbm, ⟨17, _⟩ => ⟨S4096, .i32⟩
  | .hbm, ⟨18, _⟩ => ⟨S_, .i32⟩
  | .hbm, ⟨19, _⟩ => ⟨S4096, .i32⟩
  | .hbm, ⟨20, _⟩ => ⟨S4096, .i1⟩
  | .hbm, ⟨21, _⟩ => ⟨S_, .i32⟩
  | .hbm, ⟨22, _⟩ => ⟨S4096, .i32⟩
  | .hbm, ⟨23, _⟩ => ⟨S4096, .i32⟩
  | .hbm, ⟨24, _⟩ => ⟨S4096, .i32⟩
  | .hbm, ⟨25, _⟩ => ⟨S4096x1, .i32⟩
  | .hbm, ⟨26, _⟩ => ⟨S4096x1, .i32⟩
  | .hbm, ⟨27, _⟩ => ⟨S4096x2, .i32⟩
  | .hbm, ⟨28, _⟩ => ⟨S4096, .f32⟩
  | .hbm, ⟨29, _⟩ => ⟨S4096x32000, .f32⟩
  | .hbm, ⟨30, _⟩ => ⟨S_, .i32⟩
  | .hbm, ⟨31, _⟩ => ⟨S1, .i32⟩
  | .hbm, ⟨32, _⟩ => ⟨S_, .f32⟩
  | .hbm, ⟨33, _⟩ => ⟨S4096, .f32⟩
  | .hbm, ⟨34, _⟩ => ⟨S4096x32000, .f32⟩
  | .hbm, ⟨35, _⟩ => ⟨S_, .i32⟩
  | .hbm, ⟨36, _⟩ => ⟨S4096, .i32⟩
  | .hbm, ⟨37, _⟩ => ⟨S4096, .i1⟩
  | .hbm, ⟨38, _⟩ => ⟨S4096x1, .i1⟩
  | .hbm, ⟨39, _⟩ => ⟨S_, .f32⟩
  | .hbm, ⟨40, _⟩ => ⟨S_, .f32⟩
  | .hbm, ⟨41, _⟩ => ⟨S4096x32000, .i1⟩
  | .hbm, ⟨42, _⟩ => ⟨S4096x32000, .f32⟩
  | .hbm, ⟨43, _⟩ => ⟨S4096x32000, .f32⟩
  | .hbm, ⟨44, _⟩ => ⟨S_, .f32⟩
  | .hbm, ⟨45, _⟩ => ⟨S4096x32000, .f32⟩
  | .hbm, ⟨46, _⟩ => ⟨S4096x32000, .i1⟩
  | .hbm, ⟨47, _⟩ => ⟨S_, .f32⟩
  | .hbm, ⟨48, _⟩ => ⟨S4096x32000, .f32⟩
  | .hbm, ⟨49, _⟩ => ⟨S4096x32000, .i1⟩
  | .hbm, ⟨50, _⟩ => ⟨S_, .f32⟩
  | .hbm, ⟨51, _⟩ => ⟨S_, .f32⟩
  | .hbm, ⟨52, _⟩ => ⟨S4096x32000, .f32⟩
  | .hbm, ⟨53, _⟩ => ⟨S4096x32000, .f32⟩
  | .hbm, ⟨54, _⟩ => ⟨S4096x32000, .f32⟩
  | .hbm, ⟨55, _⟩ => ⟨S4096x32000, .f32⟩
  | .hbm, ⟨56, _⟩ => ⟨S4096x32000, .f32⟩
  | .hbm, ⟨57, _⟩ => ⟨S_, .f32⟩
  | .hbm, ⟨58, _⟩ => ⟨S_, .f32⟩
  | .hbm, ⟨59, _⟩ => ⟨S4096x32000, .f32⟩
  | .hbm, ⟨60, _⟩ => ⟨S4096x32000, .f32⟩
  | .hbm, ⟨61, _⟩ => ⟨S_, .f32⟩
  | .hbm, ⟨62, _⟩ => ⟨S_, .f32⟩
  | _, _ => ⟨S4096x32000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_cst_0 : Ref sig .tc := ⟨.hbm, 3, rfl⟩
abbrev main_v0 : Ref sig .tc := ⟨.hbm, 4, rfl⟩
abbrev main_cst_1 : Ref sig .tc := ⟨.hbm, 5, rfl⟩
abbrev main_v1 : Ref sig .tc := ⟨.hbm, 6, rfl⟩
abbrev main_cst_2 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c : Ref sig .tc := ⟨.hbm, 11, rfl⟩
abbrev main_v5 : Ref sig .tc := ⟨.hbm, 12, rfl⟩
abbrev main_v6 : Ref sig .tc := ⟨.hbm, 13, rfl⟩
abbrev main_c_3 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_c_4 : Ref sig .tc := ⟨.hbm, 18, rfl⟩
abbrev main_v10 : Ref sig .tc := ⟨.hbm, 19, rfl⟩
abbrev main_v11 : Ref sig .tc := ⟨.hbm, 20, rfl⟩
abbrev main_c_5 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_c_6 : Ref sig .tc := ⟨.hbm, 30, rfl⟩
abbrev main_v20 : Ref sig .tc := ⟨.hbm, 31, rfl⟩
abbrev main_cst_7 : Ref sig .tc := ⟨.hbm, 32, rfl⟩
abbrev main_v21 : Ref sig .tc := ⟨.hbm, 33, rfl⟩
abbrev main_v22 : Ref sig .tc := ⟨.hbm, 34, rfl⟩
abbrev main_c_8 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_9 : Ref sig .tc := ⟨.hbm, 39, rfl⟩
abbrev main_call0_v0 : Ref sig .tc := ⟨.hbm, 40, rfl⟩
abbrev main_call0_v1 : Ref sig .tc := ⟨.hbm, 41, rfl⟩
abbrev main_call0_v2 : Ref sig .tc := ⟨.hbm, 42, rfl⟩
abbrev main_v26 : Ref sig .tc := ⟨.hbm, 43, rfl⟩
abbrev main_cst_10 : Ref sig .tc := ⟨.hbm, 44, rfl⟩
abbrev main_v27 : Ref sig .tc := ⟨.hbm, 45, rfl⟩
abbrev main_v28 : Ref sig .tc := ⟨.hbm, 46, rfl⟩
abbrev main_cst_11 : Ref sig .tc := ⟨.hbm, 47, rfl⟩
abbrev main_v29 : Ref sig .tc := ⟨.hbm, 48, rfl⟩
abbrev main_v30 : Ref sig .tc := ⟨.hbm, 49, rfl⟩
abbrev main_cst_12 : Ref sig .tc := ⟨.hbm, 50, rfl⟩
abbrev main_call1_v0 : Ref sig .tc := ⟨.hbm, 51, rfl⟩
abbrev main_call1_v1 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_cst_13 : Ref sig .tc := ⟨.hbm, 57, rfl⟩
abbrev main_call2_v0 : Ref sig .tc := ⟨.hbm, 58, rfl⟩
abbrev main_call2_v1 : Ref sig .tc := ⟨.hbm, 59, rfl⟩
abbrev main_v35 : Ref sig .tc := ⟨.hbm, 60, rfl⟩
abbrev main_cst_14 : Ref sig .tc := ⟨.hbm, 61, rfl⟩
abbrev main_v36 : Ref sig .tc := ⟨.hbm, 62, rfl⟩

abbrev nD : Nat := 1
abbrev τ : Topo := Topo.v7x

variable {F : FTy → Type} [FloatOps F]
-- ==== Proof.Loss.Point.lean ====
/-
  What the kernel's body leaves in its output block at one grid point: at the first column block of a row block the
  accumulator starts from zero, takes the term that is added once for each row, then the sum over the block; at every
  later column block it takes the sum over the block only.
-/
module

public import proofs.«01_k».proof.Proof.Gen.KernelIdeal.Frame
public import Idealize.ShloMosaic.Lib.Pipeline.Value
public import Idealize.ShloMosaic.Lib.Tactic

@[expose] public section

noncomputable section

open Idealize.ShloMosaic Idealize.ShloMosaic.TcCoe Idealize.SL.Sem

namespace Cert.KernelIdeal.Loss

open Cert.KernelIdeal Cert.KernelIdeal.Gen

variable {F : FTy → Type} [FloatOps F] [Named F]

/-- The offsets of a whole rank-2 block are zero. -/
theorem zero2 : (![0, 0] : Fin 2 → Nat) = fun _ => 0 := funext fun a => by fin_cases a <;> rfl

/-- The offsets of a whole rank-3 block are zero. -/
theorem zero3 : (![0, 0, 0] : Fin 3 → Nat) = fun _ => 0 := funext fun a => by fin_cases a <;> rfl

/-- At a later column block the body leaves the accumulator plus the block's sum. -/
theorem left_later (c : Dev nD) (i : grid0.Coords) (arg2 : Memref sig .tc .vmem S1x1x1024 .i32) (h2 : arg2.IsWhole)
    (arg3 : Memref sig .tc .vmem S1024x6400 .f32) (h3 : arg3.IsWhole) (arg4 : Memref sig .tc .vmem S1x1x1 .f32)
    (h4 : arg4.IsWhole) (hc0 : ¬cond0_0 i) (hc1 : ¬cond0_1 i) (t : Vec F S1x1x1024 .i32) (x : Vec F S1024x6400 .f32)
    (acc : Vec F S1x1x1 .f32) :
    out0_B_2 c i arg2 h2 arg3 h3 arg4 h4 hc0 hc1 t x acc = k0_pay5 i x t acc := by
  unfold out0_B_2
  rw [View.read_writes_eq_canon _ _ _ (cover0_B_2 c i arg2 h2 arg3 h3 arg4 h4 hc0 hc1 t x acc)]
  unfold kernelRun0_B
  dsimp only
  try sl_unfold_words
  rw [View.canon_unit_zero zero3]
  simp only [View.readAt_eq_ld, h2.read_unread, h3.read_unread, h4.read_unread,
    View.ld_unit_zero (S := S1024x6400) zero2, View.ld_unit_zero (S := S1x1x1024) zero3, View.ld_unit_zero (S := S1x1x1) zero3]

/-- At the first column block the body leaves zero, plus the rows' own term, plus the block's sum. -/
theorem left_first (c : Dev nD) (i : grid0.Coords) (arg2 : Memref sig .tc .vmem S1x1x1024 .i32) (h2 : arg2.IsWhole)
    (arg3 : Memref sig .tc .vmem S1024x6400 .f32) (h3 : arg3.IsWhole) (arg4 : Memref sig .tc .vmem S1x1x1 .f32)
    (h4 : arg4.IsWhole) (hc0 : cond0_0 i) (hc1 : cond0_1 i) (t : Vec F S1x1x1024 .i32) (x : Vec F S1024x6400 .f32) :
    out0_A_2 c i arg2 h2 arg3 h3 arg4 h4 hc0 hc1 t x = k0_pay5 i x t (k0_pay4 x t k0_pay1) := by
  unfold out0_A_2
  rw [View.read_writes_eq_canon _ _ _ (cover0_A_2 c i arg2 h2 arg3 h3 arg4 h4 hc0 hc1 t x)]
  unfold kernelRun0_A
  dsimp only
  sl_unfold_words
  rw [View.canon_cons_unit_zero (S := S1x1x1) zero3]
  rw [View.readCov_cons_toLoadRect, View.readCov_unit_zero (S := S1x1x1) _ zero3]
  simp only [View.readAt_eq_ld, h2.read_unread, h3.read_unread,
    View.ld_unit_zero (S := S1024x6400) zero2, View.ld_unit_zero (S := S1x1x1024) zero3]

end Cert.KernelIdeal.Loss

end
-- ==== Proof.Loss.Terms.lean ====
/-
  The kernel's two sums over the extended reals: what is added once for each row of a row block, and what one
  1024 × 6400 block adds.
-/
module

public import proofs.«01_k».proof.Proof.Loss.Point
public import Idealize.ShloMosaic.Lib.Pointwise
public import Idealize.ShloMosaic.Lib.ValueIdx
public import Idealize.ShloMosaic.Lib.WordCmp

@[expose] public section

noncomputable section

open Idealize.ShloMosaic Idealize.ShloMosaic.TcCoe

/-! ## The numbers of one row -/

namespace Cert.Loss

/-- The constant of a row whose target is not the padding token: the target distribution's `∑ p · log p`, as the kernel
    names it. -/
def entropy : ℝ := (1 / 10) * Real.log (129140163 / 106660000000000)

/-- What the kernel multiplies the logit in column `l` by, on a row whose target word is `k`. -/
def weight (k : BitVec 32) (l : ℕ) : EReal := if BitVec.ofNat 32 l = k then ((-9 / 10 : ℝ) : EReal) else ((-1 / 319980 : ℝ) : EReal)

/-- What the kernel adds once for a row with target word `k` and logit `y` in column 0: nothing on a padding row. -/
def once (k : BitVec 32) (y : EReal) : EReal := if k = 0#32 then 0 else (entropy : EReal) + ((1 / 319980 : ℝ) : EReal) * y

end Cert.Loss

namespace Cert.KernelIdeal.Loss

open Cert.KernelIdeal Cert.KernelIdeal.Gen Cert.Loss

/-- What one block adds to the accumulator, where the block is column block `j`. -/
def blockTerm (j : ℕ) (x : Vec Ideal S1024x6400 .f32) (t : Vec Ideal S1x1x1024 .i32) : EReal :=
  ∑ r : Fin 1024, if t (ix3 0 0 r) = 0#32 then 0 else ∑ l : Fin 6400, x (ix2 r l) * weight (t (ix3 0 0 r)) (j * 6400 + l.val)

/-- What the first column block of a row block adds besides. -/
def onceTerm (x : Vec Ideal S1024x6400 .f32) (t : Vec Ideal S1x1x1024 .i32) : EReal :=
  ∑ r : Fin 1024, once (t (ix3 0 0 r)) (x (ix2 r 0))

/-- The kernel's choice on "the target is not the padding token". -/
theorem select_ne (k : BitVec 32) (a : EReal) : Scalar.select (IntOp.cmpi .ne k 0#32) a (0 : EReal) = if k = 0#32 then 0 else a := by
  rw [WordCmp.cmpi_ne_eq, WordCmp.select_decide]
  by_cases h : k = 0#32 <;> simp [h]

/-- The column's number as the kernel computes it, in words. -/
theorem column_word (j l : ℕ) : IntOp.addi (Scalar.muli (BitVec.ofNat 32 j) 6400#32) (BitVec.ofNat 32 l) = BitVec.ofNat 32 (j * 6400 + l) := by
  show BitVec.ofNat 32 j * 6400#32 + BitVec.ofNat 32 l = _
  rw [BitVec.ofNat_add, BitVec.ofNat_mul]

/-- The kernel's choice on "this column is the target". -/
theorem select_column (k : BitVec 32) (j l : ℕ) :
    (Scalar.select (IntOp.cmpi .eq (IntOp.addi (Scalar.muli (BitVec.ofNat 32 j) 6400#32) (BitVec.ofNat 32 l)) k)
      (Named.named (F := Ideal) κ "neg_conf" 3211159142#32 : Ideal .f32) (Named.named (F := Ideal) κ "neg_eps" 3058809458#32 : Ideal .f32))
      = weight k (j * 6400 + l) := by
  rw [column_word, WordCmp.cmpi_eq_eq, WordCmp.select_decide, IdealRules.named_const.ideal_named_scalar _ _ _ _ rfl,
    IdealRules.named_const.ideal_named_scalar _ _ _ _ rfl]
  rfl

/-- The payload of every grid point's last store: the accumulator plus the block's term. -/
theorem pay5_apply (i : grid0.Coords) (x : Vec Ideal S1024x6400 .f32) (t : Vec Ideal S1x1x1024 .i32) (acc : Vec Ideal S1x1x1 .f32) (j : S1x1x1.Idx) :
    k0_pay5 i x t acc j = (acc j : EReal) + blockTerm (i 1).val x t := by
  unfold k0_pay5 k0_pay3 k0_pay2
  pointwise
  refine congrArg (fun s : EReal => (acc j : EReal) + s) (Finset.sum_congr rfl fun r _ => ?_)
  rw [select_ne]
  refine if_congr Iff.rfl rfl (Finset.sum_congr rfl fun l _ => ?_)
  exact congrArg (fun w : EReal => (x (ix2 r l) : EReal) * w) (select_column _ _ _)

/-- The payload of the store made at the first column block only: the accumulator plus the rows' own term. -/
theorem pay4_apply (x : Vec Ideal S1024x6400 .f32) (t : Vec Ideal S1x1x1024 .i32) (acc : Vec Ideal S1x1x1 .f32) (j : S1x1x1.Idx) :
    k0_pay4 x t acc j = (acc j : EReal) + onceTerm x t := by
  unfold k0_pay4 k0_pay3 k0_pay2
  pointwise
  refine congrArg (fun s : EReal => (acc j : EReal) + s) (Finset.sum_congr rfl fun r _ => ?_)
  rw [select_ne, IdealRules.named_const.ideal_named_scalar _ _ _ _ rfl, IdealRules.named_const.ideal_named_scalar _ _ _ _ rfl]
  rfl

/-- The accumulator starts from zero. -/
theorem pay1_apply (j : S1x1x1.Idx) : (k0_pay1 (F := Ideal) j : EReal) = 0 := by
  unfold k0_pay1
  pointwise

end Cert.KernelIdeal.Loss

end
-- ==== Proof.Loss.Blocks.lean ====
/-
  What the kernel's windows read at grid point `t`: with `a = t / 5` and `b = t % 5`, rows `1024·a …` and columns
  `6400·b …` of the logits, and the targets of the same rows (a host reshape lays the 4096 targets out as 4 × 1 × 1024).
-/
module

public import proofs.«01_k».proof.Proof.Loss.Terms

@[expose] public section

noncomputable section

open Idealize.ShloMosaic Idealize.ShloMosaic.TcCoe

namespace Cert.KernelIdeal.Loss

open Cert.KernelIdeal Cert.KernelIdeal.Gen Cert.Loss

variable (m : (ℓ : Loc nD τ sig) → Buf (Elt Ideal) ℓ)

/-- The logits, as an array. -/
abbrev logits (c : Dev nD) : Vec Ideal S4096x32000 .f32 := m ((c : Thread nD τ).loc main_arg0)

/-- The targets, as an array of words. -/
abbrev targets (c : Dev nD) : Vec Ideal S4096 .i32 := m ((c : Thread nD τ).loc main_arg1)

/-- The grid's coordinates and the blocks that the windows read at a point. -/
theorem at_point : ∀ t : Fin grid0.N, (grid0.coords t 1).val = t.val % 5
    ∧ win0_0.index t 0 = t.val / 5 ∧ win0_0.index t 1 = 0 ∧ win0_0.index t 2 = 0
    ∧ win0_1.index t 0 = t.val / 5 ∧ win0_1.index t 1 = t.val % 5
    ∧ win0_2.index t 0 = t.val / 5 ∧ win0_2.index t 1 = 0 ∧ win0_2.index t 2 = 0 := by decide +kernel

/-- The row of the logits in place `r` of row block `a`. -/
abbrev rowOf (a : Fin 4) (r : Fin 1024) : Fin 4096 := ⟨a.val * 1024 + r.val, by have := a.isLt; have := r.isLt; omega⟩

/-- The column of the logits in place `l` of column block `b`. -/
abbrev colOf (b : Fin 5) (l : Fin 6400) : Fin 32000 := ⟨b.val * 6400 + l.val, by have := b.isLt; have := l.isLt; omega⟩

/-- The grid point of row block `a` and column block `b`. -/
abbrev pointOf (a : Fin 4) (b : Fin 5) : Fin cfg0.N := ⟨5 * a.val + b.val, by rw [show cfg0.N = 20 from N_0]; have := a.isLt; have := b.isLt; omega⟩

/-- The block of the logits at a point. -/
theorem logits_block (c : Dev nD) (a : Fin 4) (b : Fin 5) (r : Fin 1024) (l : Fin 6400) :
    (iblk m c 1 (pointOf a b) : Vec Ideal S1024x6400 .f32) (ix2 r l) = logits m c (ix2 (rowOf a r) (colOf b l)) := by
  obtain ⟨-, -, -, -, h0, h1, -⟩ := at_point (pointOf a b)
  have ha := a.isLt
  have hb := b.isLt
  unfold iblk
  rw [View.read_apply]
  show V m c main_arg0 _ = m (c.tc.loc main_arg0) _
  rw [V_main_arg0]
  congr 1
  funext q
  apply Fin.ext
  match q with
  | ⟨0, _⟩ => show win0_1.index (pointOf a b) 0 * 1024 + 1 * r.val = a.val * 1024 + r.val
              rw [h0]; show (5 * a.val + b.val) / 5 * 1024 + 1 * r.val = _; omega
  | ⟨1, _⟩ => show win0_1.index (pointOf a b) 1 * 6400 + 1 * l.val = b.val * 6400 + l.val
              rw [h1]; show (5 * a.val + b.val) % 5 * 6400 + 1 * l.val = _; omega

/-- What the host's reshape leaves for the kernel to read: the targets, 1024 to a row block. -/
theorem reshaped (c : Dev nD) (a : Fin 4) (r : Fin 1024) :
    (V m c main_call0_v0 : Vec Ideal S4x1x1024 .i32) (ix3 a 0 r) = targets m c (ix1 (rowOf a r)) := by
  have e : (V m c main_call0_v0 : Vec Ideal S4x1x1024 .i32) = shapeCast S4x1x1024 (targets m c) shapeCasts_S4096_S4x1x1024 := by
    simp only [V, V0, hostOps0, List.flatten_cons, List.flatten_nil, List.append_nil, StableHlo.TRef.reshape]
    after_results
    rfl
  rw [e]
  pointwise

/-- The block of the targets at a point. -/
theorem targets_block (c : Dev nD) (a : Fin 4) (b : Fin 5) (r : Fin 1024) :
    (iblk m c 0 (pointOf a b) : Vec Ideal S1x1x1024 .i32) (ix3 0 0 r) = targets m c (ix1 (rowOf a r)) := by
  obtain ⟨-, h0, h1, h2, -⟩ := at_point (pointOf a b)
  have ha := a.isLt
  have hb := b.isLt
  rw [← reshaped]
  unfold iblk
  rw [View.read_apply]
  show V m c main_call0_v0 _ = _
  congr 1
  funext q
  apply Fin.ext
  match q with
  | ⟨0, _⟩ => show win0_0.index (pointOf a b) 0 * 1 + 1 * 0 = a.val
              rw [h0]; show (5 * a.val + b.val) / 5 * 1 + 1 * 0 = _; omega
  | ⟨1, _⟩ => show win0_0.index (pointOf a b) 1 * 1 + 1 * 0 = 0
              rw [h1]
  | ⟨2, _⟩ => show win0_0.index (pointOf a b) 2 * 1024 + 1 * r.val = r.val
              rw [h2]; omega

end Cert.KernelIdeal.Loss

end
-- ==== Proof.Loss.Fold.lean ====
/-
  The accumulator after the five column blocks of a row block, and the array of the four row blocks' sums that the
  pipeline leaves.
-/
module

public import proofs.«01_k».proof.Proof.Loss.Blocks

@[expose] public section

noncomputable section

open Idealize.ShloMosaic Idealize.ShloMosaic.TcCoe Idealize.SL.Sem
open Idealize.ShloMosaic.Pipeline (Dat)

namespace Cert.KernelIdeal.Loss

open Cert.KernelIdeal Cert.KernelIdeal.Gen Cert.Loss

variable (m : (ℓ : Loc nD τ sig) → Buf (Elt Ideal) ℓ)

/-- What row block `a` adds once for each of its rows. -/
def rowsOnce (c : Dev nD) (a : Fin 4) : EReal :=
  ∑ r : Fin 1024, once (targets m c (ix1 (rowOf a r))) (logits m c (ix2 (rowOf a r) 0))

/-- What row block `a` adds for its column block `b`. -/
def blockSum (c : Dev nD) (a : Fin 4) (b : Fin 5) : EReal :=
  ∑ r : Fin 1024, if targets m c (ix1 (rowOf a r)) = 0#32 then 0
    else ∑ l : Fin 6400, logits m c (ix2 (rowOf a r) (colOf b l)) * weight (targets m c (ix1 (rowOf a r))) (colOf b l).val

/-- The block's term at a grid point is row block `a`'s sum over column block `b`. -/
theorem blockTerm_point (c : Dev nD) (a : Fin 4) (b : Fin 5) :
    blockTerm (grid0.coords (pointOf a b) 1).val (iblk m c 1 (pointOf a b)) (iblk m c 0 (pointOf a b)) = blockSum m c a b := by
  have hb : (grid0.coords (pointOf a b) 1).val = b.val := (at_point (pointOf a b)).1.trans (by
    have := b.isLt
    show (5 * a.val + b.val) % 5 = b.val
    omega)
  rw [hb]
  unfold blockTerm blockSum
  refine Finset.sum_congr rfl fun r _ => ?_
  rw [targets_block]
  refine if_congr Iff.rfl rfl (Finset.sum_congr rfl fun l _ => ?_)
  rw [logits_block]

/-- The rows' own term at a row block's first grid point. -/
theorem onceTerm_point (c : Dev nD) (a : Fin 4) :
    onceTerm (iblk m c 1 (pointOf a 0)) (iblk m c 0 (pointOf a 0)) = rowsOnce m c a := by
  unfold onceTerm rowsOnce
  refine Finset.sum_congr rfl fun r _ => ?_
  rw [targets_block, logits_block]
  rfl

/-- After a row block's first column block. -/
theorem after_first (c : Dev nD) (a : Fin 4) (j : S1x1x1.Idx) :
    (outsAt0 m c (pointOf a 0).val (pointOf a 0).isLt j : EReal) = rowsOnce m c a + blockSum m c a 0 := by
  have h : (pointOf a 0).val % 5 = 0 := by show (5 * a.val + 0) % 5 = 0; omega
  rw [outsAt0_A m c (pointOf a 0) h h, left_first, pay5_apply, pay4_apply, pay1_apply, blockTerm_point, onceTerm_point, zero_add]

/-- After a later column block. -/
theorem after_later (c : Dev nD) (a : Fin 4) (b b' : Fin 5) (hb : b'.val = b.val + 1) (j : S1x1x1.Idx) :
    (outsAt0 m c (pointOf a b').val (pointOf a b').isLt j : EReal)
      = (outsAt0 m c (pointOf a b).val (pointOf a b).isLt j : EReal) + blockSum m c a b' := by
  have h : ¬(pointOf a b').val % 5 = 0 := by
    have := b'.isLt
    show ¬(5 * a.val + b'.val) % 5 = 0
    omega
  have e : ∀ (n n' : ℕ) (hn : n < cfg0.N) (hn' : n' < cfg0.N), n = n' → outsAt0 m c n hn = outsAt0 m c n' hn' := by
    intro n n' hn hn' q; subst q; rfl
  rw [outsAt0_B m c (pointOf a b') h h, left_later, pay5_apply, blockTerm_point,
    e _ (pointOf a b).val _ (pointOf a b).isLt (by show 5 * a.val + b'.val - 1 = 5 * a.val + b.val; omega)]

/-- What a row block's accumulator ends as. -/
def rowBlockSum (c : Dev nD) (a : Fin 4) : EReal := rowsOnce m c a + ∑ b : Fin 5, blockSum m c a b

/-- After a row block's last column block. -/
theorem after_last (c : Dev nD) (a : Fin 4) (j : S1x1x1.Idx) :
    (outsAt0 m c (pointOf a 4).val (pointOf a 4).isLt j : EReal) = rowBlockSum m c a := by
  rw [after_later m c a 3 4 rfl, after_later m c a 2 3 rfl, after_later m c a 1 2 rfl, after_later m c a 0 1 rfl, after_first]
  unfold rowBlockSum
  rw [Fin.sum_univ_five]
  simp only [add_assoc]

/-- The array of the row blocks' sums. -/
def partials (c : Dev nD) : Vec Ideal S4x1x1 .f32 := fun i => rowBlockSum m c (i 0)

/-- What is written back at the end of a row block is the array's entry for it. -/
theorem flushed_eq (c : Dev nD) (t : Fin cfg0.N) (hf : (cfg0.win 2).flush t = true) :
    (dats m 0 c).flushed 2 t = ((cfg0.win 2).blk t).view.read (Elt Ideal) (partials m c) := by
  have h4 : t.val % 5 = 4 := (flush0_2 t).mp hf
  have hN : t.val < 20 := lt_of_lt_of_eq t.isLt (show cfg0.N = 20 from N_0)
  obtain ⟨a, rfl⟩ : ∃ a : Fin 4, t = pointOf a 4 := ⟨⟨t.val / 5, by omega⟩, Fin.ext (by show t.val = 5 * (t.val / 5) + 4; omega)⟩
  obtain ⟨-, -, -, -, -, -, h0, -⟩ := at_point (pointOf a 4)
  show (cfg0.win 2).cut (grid0.coords (pointOf a 4)) ((dats m 0 c).after 2 (pointOf a 4)) = _
  rw [after0_2]
  funext j
  rw [View.read_apply]
  refine (after_last m c a _).trans ?_
  show rowBlockSum m c a = rowBlockSum m c _
  congr 1
  apply Fin.ext
  have hj : (j 0).val < 1 := (j 0).isLt
  have ha := a.isLt
  show a.val = win0_2.index (pointOf a 4) 0 * 1 + 1 * (j 0).val
  rw [h0]
  show a.val = (5 * a.val + 4) / 5 * 1 + 1 * (j 0).val
  omega

/-- The pipeline's result array holds the row blocks' sums. -/
theorem final_partials (c : Dev nD) : (dats m 0 c).arrAt 2 cfg0.N = partials m c :=
  (dats m 0 c).arrAt_eq_of_cover 2 (partials m c) (flushed_eq m c) fun i => by
    have hi0 : (i 0).val < 4 := (i 0).isLt
    have hi1 : (i 1).val < 1 := (i 1).isLt
    have hi2 : (i 2).val < 1 := (i 2).isLt
    obtain ⟨-, -, -, -, -, -, h0, h1, h2⟩ := at_point (pointOf ⟨(i 0).val, hi0⟩ 4)
    refine ⟨pointOf ⟨(i 0).val, hi0⟩ 4, (flush0_2 _).mpr (by show (5 * (i 0).val + 4) % 5 = 4; omega), ?_⟩
    show i ∈ ((View.whole main_call0_v1).slice (win0_2.rect (pointOf ⟨(i 0).val, hi0⟩ 4))).set
    rw [View.set_slice_whole, Rect.mem_set_unit]
    intro q
    match q with
    | ⟨0, _⟩ => show win0_2.index (pointOf ⟨(i 0).val, hi0⟩ 4) 0 * 1 ≤ (i 0 : Nat) ∧ (i 0 : Nat) < win0_2.index (pointOf ⟨(i 0).val, hi0⟩ 4) 0 * 1 + 1
                rw [h0]
                show (5 * (i 0).val + 4) / 5 * 1 ≤ (i 0).val ∧ (i 0).val < (5 * (i 0).val + 4) / 5 * 1 + 1
                omega
    | ⟨1, _⟩ => show win0_2.index (pointOf ⟨(i 0).val, hi0⟩ 4) 1 * 1 ≤ (i 1 : Nat) ∧ (i 1 : Nat) < win0_2.index (pointOf ⟨(i 0).val, hi0⟩ 4) 1 * 1 + 1
                rw [h1]; omega
    | ⟨2, _⟩ => show win0_2.index (pointOf ⟨(i 0).val, hi0⟩ 4) 2 * 1 ≤ (i 2 : Nat) ∧ (i 2 : Nat) < win0_2.index (pointOf ⟨(i 0).val, hi0⟩ 4) 2 * 1 + 1
                rw [h2]; omega

end Cert.KernelIdeal.Loss

end
-- ==== Proof.Loss.Run.lean ====
/-
  The kernel's run, read: its one result is the sum of the four row blocks' sums, which is the sum over the 4096 rows
  of what the kernel computes for a row.
-/
module

public import proofs.«01_k».proof.Proof.Loss.Fold

@[expose] public section

noncomputable section

open Idealize.ShloMosaic Idealize.ShloMosaic.TcCoe Idealize.SL.Sem

namespace Cert.Loss

/-- What the kernel computes for a row of logits `y` with target word `k`. -/
def kernelRow (k : BitVec 32) (y : Fin 32000 → EReal) : EReal :=
  if k = 0#32 then 0 else once k (y 0) + ∑ l : Fin 32000, y l * weight k l.val

end Cert.Loss

namespace Cert.KernelIdeal.Loss

open Cert.KernelIdeal Cert.KernelIdeal.Gen Cert.Loss

variable (m : (ℓ : Loc nD τ sig) → Buf (Elt Ideal) ℓ) (ρ : Dev nD → PrngReg)

/-- A row block's sum, row by row. -/
theorem rowBlockSum_rows (c : Dev nD) (a : Fin 4) :
    rowBlockSum m c a = ∑ r : Fin 1024, kernelRow (targets m c (ix1 (rowOf a r))) fun l => logits m c (ix2 (rowOf a r) l) := by
  unfold rowBlockSum rowsOnce blockSum
  rw [Finset.sum_comm, ← Finset.sum_add_distrib]
  refine Finset.sum_congr rfl fun r _ => ?_
  unfold kernelRow
  by_cases h : targets m c (ix1 (rowOf a r)) = 0#32
  · rw [if_pos h]
    simp only [if_pos h, once, Finset.sum_const_zero, add_zero]
  · simp only [if_neg h]
    refine congrArg (fun s : EReal => once _ _ + s) ?_
    exact (Fin.sum_univ_tiles 5 6400 rfl fun l : Fin 32000 =>
      (logits m c (ix2 (rowOf a r) l) : EReal) * weight (targets m c (ix1 (rowOf a r))) l.val).symm

/-- The sum of the row blocks' sums is the sum over all rows. -/
theorem sum_rows (c : Dev nD) :
    ∑ a : Fin 4, rowBlockSum m c a = ∑ i : Fin 4096, kernelRow (targets m c (ix1 i)) fun l => logits m c (ix2 i l) := by
  rw [Fin.sum_univ_tiles 4 1024 rfl fun i : Fin 4096 => kernelRow (targets m c (ix1 i)) fun l => logits m c (ix2 i l)]
  exact Finset.sum_congr rfl fun a _ => rowBlockSum_rows m c a

/-- The host's sum of the pipeline's array. -/
theorem host_sum (c : Dev nD) :
    (Host.reduceAdd (partials m c) (constant (F := Ideal) S_ .f32 0x00000000#32) reducesTo_S4x1x1_S_d0_1_2 h_S_ : Vec Ideal S_ .f32)
      = fun _ => (∑ i : Fin 4096, kernelRow (targets m c (ix1 i)) fun l => logits m c (ix2 i l) : EReal) := by
  funext j
  rw [← sum_rows]
  unfold partials
  pointwise
  simp only [Finset.univ_unique, Finset.sum_const, Finset.card_singleton, one_smul]

/-- What the host lines after the pipeline leave in the result. -/
theorem result_tail (c : Dev nD) :
    Pipeline.afterTail₀ cfgs (dats m) 0 (V0 m) [hostOps1] c main_v0
      = (fun _ => (∑ i : Fin 4096, kernelRow (targets m c (ix1 i)) fun l => logits m c (ix2 i l) : EReal) : Vec Ideal S_ .f32) := by
  have hw : Pipeline.withArrays (cfgs 0).spec c (V0 m c) (fun w => (dats m 0 c).arrAt w (cfgs 0).N) (Proc.tc.devRef main_call0_v1)
      = partials m c :=
    (Pipeline.withArrays_arr (cfgs 0).spec (by decide) c (V0 m c) (fun w => (dats m 0 c).arrAt w (cfgs 0).N) 2).trans (final_partials m c)
  rw [← host_sum]
  unfold Pipeline.afterTail₀
  simp only [hostOps1, List.flatten_cons, List.flatten_nil, List.append_nil, StableHlo.TRef.nullary, StableHlo.TRef.binary]
  after_results
  rw [hw]
  rfl

/-- The kernel's run: the result holds the sum over the rows, the arguments are unchanged. -/
theorem run : θ_run defs (onTc (τ := τ) (main (F := Ideal))) ⟨m, fun _ => 0, ρ⟩ fun r => ∀ c : Dev nD,
      r.2.mem ((c : Thread nD τ).loc main_v0)
        = (fun _ => (∑ i : Fin 4096, kernelRow (targets m c (ix1 i)) fun l => logits m c (ix2 i l) : EReal) : Vec Ideal S_ .f32)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c =>
    ⟨((h c).2 main_v0 (Pipeline.mem_restRefs_of main_v0 (by decide) (by decide))).trans (result_tail m c),
      ((h c).1 1).trans (((dats m 0 c).arrAt_in 1 rfl _).trans ((A_eq m c 1).trans (V_main_arg0 m c))),
      ((h c).2 main_arg1 (Pipeline.mem_restRefs_of main_arg1 (by decide) (by decide))).trans (W_main_arg1 m (dats m) c)⟩)
    (run_main m ρ)

end Cert.KernelIdeal.Loss

end
-- ==== Proof.Loss.Table.lean ====
/-
  The reference's table of target probabilities, read at an entry: `1/319980` everywhere, `9/10` where the row's target
  is the column, then 0 in column 0 and on the rows whose target is the padding token 0.
-/
module

public import proofs.«01_k».proof.Proof.Gen.ReferenceIdeal.Read
public import Idealize.ShloMosaic.Lib.Routing.OpsOne
public import Idealize.ShloMosaic.Lib.Pointwise
public import Idealize.ShloMosaic.Lib.WordCmp

@[expose] public section

noncomputable section

open Idealize.ShloMosaic Idealize.ShloMosaic.TcCoe

namespace Cert.Loss

/-- The target probability of column `l` on a row whose target word is `k`. -/
def prob (k : BitVec 32) (l : ℕ) : ℝ :=
  if k = 0#32 then 0 else if l = 0 then 0 else if BitVec.ofNat 32 l = k then 9 / 10 else 1 / 319980

end Cert.Loss

namespace Cert.ReferenceIdeal.Loss

open Cert.ReferenceIdeal Cert.ReferenceIdeal.Read Cert.Loss

/-- An index of a vector of 4096 entries is its one coordinate. -/
theorem eq_entry (k : S4096.Idx) : ∃ n : Fin 4096, k = ix1 n := ⟨k 0, funext fun b => by fin_cases b; rfl⟩

/-- Update `n` of the scatter of the targets' probabilities lands where its two index words, read signed, say. -/
theorem pair_lands (idx : IVec S4096x2 32) (n : Fin 4096) (r : Fin 4096) (l : Fin 32000) :
    scatter_S4096x32000_S4096x2_S4096_n_01_01_1.resultIdx? (ix1 n) idx = some (ix2 r l)
      ↔ (idx (ix2 n 0)).toInt = (r.val : Int) ∧ (idx (ix2 n 1)).toInt = (l.val : Int) := by
  have hw : ∀ a : Fin 2, scatter_S4096x32000_S4096x2_S4096_n_01_01_1.window (ix1 n) a = 0 := fun a => by
    unfold ScatterDims.window
    exact dif_neg (by fin_cases a <;> decide)
  have hs : ∀ a : Fin 2, scatter_S4096x32000_S4096x2_S4096_n_01_01_1.start (ix1 n) idx a = (idx (ix2 n a)).toInt := fun a => by
    unfold ScatterDims.start
    rw [dif_pos (by fin_cases a <;> decide)]
    congr 2
    funext b
    fin_cases a <;> fin_cases b <;> rfl
  rw [Routing.resultIdx?_eq_some]
  constructor
  · intro h
    have h0 := h 0
    have h1 := h 1
    rw [hs, hw] at h0 h1
    exact ⟨(add_zero _).symm.trans h0, (add_zero _).symm.trans h1⟩
  · rintro ⟨h0, h1⟩ a
    rw [hs, hw]
    match a with
    | ⟨0, _⟩ => exact (add_zero _).trans h0
    | ⟨1, _⟩ => exact (add_zero _).trans h1

/-- Update `n` of the clearing of one column lands in row `n` of the column that the one index word, read signed, says. -/
theorem column_lands (idx : IVec S1 32) (hidx : (idx (ix1 0)).toInt = 0) (n : Fin 4096) (r : Fin 4096) (l : Fin 32000) :
    scatter_S4096x32000_S1_S4096_0_1_1_0.resultIdx? (ix1 n) idx = some (ix2 r l) ↔ n = r ∧ l = 0 := by
  have hw0 : scatter_S4096x32000_S1_S4096_0_1_1_0.window (ix1 n) 0 = n.val := rfl
  have hw1 : scatter_S4096x32000_S1_S4096_0_1_1_0.window (ix1 n) 1 = 0 := rfl
  have hs0 : scatter_S4096x32000_S1_S4096_0_1_1_0.start (ix1 n) idx 0 = 0 := rfl
  have hs1 : scatter_S4096x32000_S1_S4096_0_1_1_0.start (ix1 n) idx 1 = 0 := by
    refine Eq.trans ?_ hidx
    unfold ScatterDims.start
    rw [dif_pos (by decide)]
    congr 2
    funext b
    fin_cases b
    rfl
  rw [Routing.resultIdx?_eq_some]
  constructor
  · intro h
    have h0 := h 0
    have h1 := h 1
    rw [hs0, hw0] at h0
    rw [hs1, hw1] at h1
    have h0 : (0 : Int) + (n.val : Int) = r.val := h0
    have h1 : (0 : Int) + ((0 : ℕ) : Int) = l.val := h1
    exact ⟨Fin.ext (by omega), Fin.ext (by show l.val = 0; omega)⟩
  · rintro ⟨rfl, rfl⟩ a
    match a with
    | ⟨0, _⟩ => exact zero_add _
    | ⟨1, _⟩ => exact congrArg₂ (fun (u : Int) (v : ℕ) => u + (v : Int)) hs1 hw1

/-- The first index word of update `n`: its row. -/
theorem word_row (t : (⟨S4096, .i32⟩ : BufTy).Contents (Elt Ideal)) (n : Fin 4096) :
    (val_main_v17 (F := Ideal) t (ix2 n 0) : BitVec 32) = BitVec.ofNat 32 n.val := by
  have hn := n.isLt
  unfold val_main_v17
  refine (concatenate_pair_apply_left (t := S4096x2) (s₁ := S4096x1) (s₂ := S4096x1) (1 : Fin 2) (val_main_v15 (F := Ideal)) (val_main_v16 (F := Ideal) t) _ (ix2 n 0) rfl (ix2 n 0)
    (fun b => by fin_cases b <;> rfl)).trans ?_
  rw [val_main_v15_apply, val_main_v9_apply, val_main_v6_apply, val_main_v5_apply, val_main_c_apply, val_main_v4_apply]
  refine Routing.wrap_of_lt _ _ ?_
  show (BitVec.ofNat 32 n.val).toNat < 2 ^ 31
  rw [WordCmp.toNat_ofNat_of_lt (by omega)]
  omega

/-- The second index word of update `n`: its target. -/
theorem word_column (t : (⟨S4096, .i32⟩ : BufTy).Contents (Elt Ideal)) (n : Fin 4096) (h : (t (ix1 n) : BitVec 32).toNat < 32000) :
    (val_main_v17 (F := Ideal) t (ix2 n 1) : BitVec 32) = t (ix1 n) := by
  have e : idx_main_v16 (ix2 n 0) = ix1 n := funext fun b => by fin_cases b; rfl
  unfold val_main_v17
  refine (concatenate_pair_apply_right (t := S4096x2) (s₁ := S4096x1) (s₂ := S4096x1) (1 : Fin 2) (val_main_v15 (F := Ideal)) (val_main_v16 (F := Ideal) t) _ (ix2 n 1) rfl rfl (ix2 n 0)
    (fun b hb => ?_) rfl).trans ?_
  · match b with
    | ⟨0, _⟩ => rfl
    | ⟨1, _⟩ => exact (hb rfl).elim
  rw [val_main_v16_apply, val_main_v14_apply, val_main_v11_apply, val_main_v10_apply, val_main_c_4_apply, e]
  exact Routing.wrap_of_lt _ _ (by show _ < 2 ^ 31; omega)

/-- The table after the targets' probabilities are written. -/
theorem table_targets (t : (⟨S4096, .i32⟩ : BufTy).Contents (Elt Ideal)) (h : ∀ n : Fin 4096, (t (ix1 n) : BitVec 32).toNat < 32000)
    (r : Fin 4096) (l : Fin 32000) :
    (val_main_v19 (F := Ideal) t (ix2 r l) : EReal)
      = if BitVec.ofNat 32 l.val = t (ix1 r) then val_main_v18 (F := Ideal) (ix1 r) else val_main_v3 (F := Ideal) (ix2 r l) := by
  have lands : ∀ n : Fin 4096, scatter_S4096x32000_S4096x2_S4096_n_01_01_1.resultIdx? (ix1 n) (val_main_v17 (F := Ideal) t) = some (ix2 r l)
      ↔ n = r ∧ BitVec.ofNat 32 l.val = (t (ix1 n) : BitVec 32) := fun n => by
    have hn := n.isLt
    have hl := l.isLt
    have ht := h n
    rw [pair_lands, word_row, word_column t n ht, WordCmp.toInt_ofNat_of_lt (by show n.val < 2 ^ 31; omega),
      WordCmp.toInt_eq_toNat_of_lt_half (by show _ < 2 ^ 31; omega), ← BitVec.toNat_inj, WordCmp.toNat_ofNat_of_lt (by omega), Fin.ext_iff]
    omega
  unfold val_main_v19
  by_cases e : BitVec.ofNat 32 l.val = t (ix1 r)
  · rw [if_pos e]
    exact Routing.scatter_set_hit _ _ _ _ _ _ (fun k hk => by rw [val_main_v18_apply, val_main_v18_apply]) (ix1 r) ((lands r).2 ⟨rfl, e⟩)
  · rw [if_neg e]
    refine Routing.scatter_set_miss _ _ _ _ _ fun k hk => e ?_
    obtain ⟨n, rfl⟩ := eq_entry k
    obtain ⟨rfl, q⟩ := (lands n).1 hk
    exact q

/-- The table after column 0 is cleared. -/
theorem table_column0 (t : (⟨S4096, .i32⟩ : BufTy).Contents (Elt Ideal)) (r : Fin 4096) (l : Fin 32000) :
    (val_main_v22 (F := Ideal) t (ix2 r l) : EReal) = if l = 0 then 0 else val_main_v19 (F := Ideal) t (ix2 r l) := by
  have hidx : (val_main_v20 (F := Ideal) (ix1 0) : BitVec 32).toInt = 0 := by rw [val_main_v20_apply, val_main_c_6_apply]; rfl
  unfold val_main_v22
  by_cases e : l = 0
  · rw [if_pos e]
    refine Routing.scatter_set_hit _ _ _ _ _ _ (fun k hk => ?_) (ix1 r) ((column_lands _ hidx r r l).2 ⟨rfl, e⟩)
    rw [val_main_v21_apply, val_main_cst_7_apply]
    pointwise
  · rw [if_neg e]
    refine Routing.scatter_set_miss _ _ _ _ _ fun k hk => e ?_
    obtain ⟨n, rfl⟩ := eq_entry k
    exact ((column_lands _ hidx n r l).1 hk).2

/-- The word of 10. -/
theorem ten_word : Ideal.ofBits .f32 0x41200000#32 = ((10 : ℝ) : EReal) := by
  simp [Ideal.ofBits, Ideal.ieee, -EReal.coe_mul]
  norm_num

/-- The word of 31998. -/
theorem columns_word : Ideal.ofBits .f32 0x46F9FC00#32 = ((31998 : ℝ) : EReal) := by
  simp [Ideal.ofBits, Ideal.ieee, -EReal.coe_mul]
  norm_num

/-- The reference's `0.1`, as it computes it. -/
theorem tenth : (FloatOps.hostDivf (FloatOps.ofBits .f32 0x3F800000#32) (FloatOps.ofBits .f32 0x41200000#32 : Ideal .f32) : EReal)
    = ((1 / 10 : ℝ) : EReal) := by
  pointwise
  rw [ten_word, show (1 : EReal) = ((1 : ℝ) : EReal) from rfl, Ideal.div_coe (by norm_num), ← EReal.coe_mul]
  norm_num

/-- The reference's `0.1 / 31998`, as it computes it. -/
theorem share : Ideal.div ((1 / 10 : ℝ) : EReal) (Ideal.ofBits .f32 0x46F9FC00#32) = ((1 / 319980 : ℝ) : EReal) := by
  rw [columns_word, Ideal.div_coe (by norm_num), ← EReal.coe_mul]
  norm_num

/-- The reference's `1 − 0.1`. -/
theorem confidence : (1 : EReal) - ((1 / 10 : ℝ) : EReal) = ((9 / 10 : ℝ) : EReal) := by
  rw [show (1 : EReal) = ((1 : ℝ) : EReal) from rfl, ← EReal.coe_sub]
  norm_num

/-- The table of target probabilities. -/
theorem table (t : (⟨S4096, .i32⟩ : BufTy).Contents (Elt Ideal)) (h : ∀ n : Fin 4096, (t (ix1 n) : BitVec 32).toNat < 32000)
    (r : Fin 4096) (l : Fin 32000) :
    (val_main_v26 (F := Ideal) t (ix2 r l) : EReal) = ((prob (t (ix1 r)) l.val : ℝ) : EReal) := by
  have e : idx_main_v25 (idx_main_call0_v1 (ix2 r l)) = ix1 r := funext fun b => by fin_cases b; rfl
  have hl : l = 0 ↔ l.val = 0 := Fin.ext_iff
  rw [val_main_v26_apply, table_column0, table_targets t h, val_main_call0_v2_apply, val_main_call0_v0_apply, val_main_cst_9_apply,
    val_main_call0_v1_apply, val_main_v25_apply, val_main_v24_apply, val_main_v23_apply, val_main_c_8_apply,
    val_main_v18_apply, val_main_v1_apply, val_main_cst_1_apply, val_main_v3_apply, val_main_v2_apply, val_main_cst_2_apply,
    val_main_v0_apply, val_main_cst_apply, val_main_cst_0_apply, tenth, e]
  pointwise
  rw [share, confidence, WordCmp.cmpi_eq_eq, WordCmp.select_decide]
  unfold prob
  simp only [hl]
  split_ifs <;> rfl

end Cert.ReferenceIdeal.Loss

end
-- ==== Proof.Loss.RefSum.lean ====
/-
  What the reference computes: the sum over rows and columns of `p · (log p − x)`, an entry with `p = 0` giving 0.
-/
module

public import proofs.«01_k».proof.Proof.Loss.Table
public import Idealize.ShloMosaic.Lib.ValueIdx

@[expose] public section

noncomputable section

open Idealize.ShloMosaic Idealize.ShloMosaic.TcCoe

namespace Cert.Loss

/-- The divergence's term for target probability `p` and logit `y`. -/
def term (p : ℝ) (y : EReal) : EReal := if 0 < p then (p : EReal) * ((Real.log p : EReal) - y) else 0

end Cert.Loss

namespace Cert.ReferenceIdeal.Loss

open Cert.ReferenceIdeal Cert.ReferenceIdeal.Read Cert.Loss

/-- The reference's term, its guards against the logarithm of 0 opened, over the real probability `p`. -/
theorem guarded (p : ℝ) (y : EReal) :
    (if (0 : EReal) < (p : EReal) then (p : EReal) * (Ideal.log (if (0 : EReal) < (p : EReal) then (p : EReal) else 1) - y) else 0) = term p y := by
  unfold term
  by_cases h : 0 < p
  · have hp : (0 : EReal) < (p : EReal) := EReal.coe_pos.2 h
    rw [if_pos hp, if_pos hp, if_pos h, Ideal.log_coe, if_neg (not_le.2 h)]
  · rw [if_neg fun hp => h (EReal.coe_pos.1 hp), if_neg h]

/-- One entry of what the reference sums. -/
theorem entry (x : (⟨S4096x32000, .f32⟩ : BufTy).Contents (Elt Ideal)) (t : (⟨S4096, .i32⟩ : BufTy).Contents (Elt Ideal))
    (h : ∀ n : Fin 4096, (t (ix1 n) : BitVec 32).toNat < 32000) (r : Fin 4096) (l : Fin 32000) :
    (val_main_v35 (F := Ideal) x t (ix2 r l) : EReal) = term (prob (t (ix1 r)) l.val) (x (ix2 r l)) := by
  rw [val_main_v35_apply, val_main_v28_apply, val_main_v34_apply, val_main_v33_apply, val_main_v32_apply, val_main_v31_apply, val_main_v30_apply,
    val_main_v27_apply, val_main_v29_apply, val_main_cst_10_apply, val_main_cst_11_apply, val_main_call1_v1_apply, val_main_call1_v0_apply, val_main_cst_12_apply,
    val_main_call2_v1_apply, val_main_call2_v0_apply, val_main_cst_13_apply, table t h]
  pointwise
  exact guarded _ _

/-- The reference's result. -/
theorem total (x : (⟨S4096x32000, .f32⟩ : BufTy).Contents (Elt Ideal)) (t : (⟨S4096, .i32⟩ : BufTy).Contents (Elt Ideal))
    (h : ∀ n : Fin 4096, (t (ix1 n) : BitVec 32).toNat < 32000) :
    val_main_v36 (F := Ideal) x t
      = (fun _ => (∑ r : Fin 4096, ∑ l : Fin 32000, term (prob (t (ix1 r)) l.val) (x (ix2 r l)) : EReal) : Vec Ideal S_ .f32) := by
  funext i
  have he : ∀ (r : Fin 4096) (l : Fin 32000), (val_main_v35 (F := Ideal) x t (ix2 r l) : EReal) = term (prob (t (ix1 r)) l.val) (x (ix2 r l)) :=
    entry x t h
  unfold val_main_v36
  generalize val_main_v35 (F := Ideal) x t = y at he
  unfold val_main_cst_14
  pointwise
  exact Finset.sum_congr rfl fun r _ => Finset.sum_congr rfl fun l _ => he r l

end Cert.ReferenceIdeal.Loss

end
-- ==== Proof.Loss.Row.lean ====
/-
  The equation, for one row: what the kernel computes for a row is the sum of the reference's terms along it.
-/
module

public import proofs.«01_k».proof.Proof.Loss.Run
public import proofs.«01_k».proof.Proof.Loss.RefSum

@[expose] public section

noncomputable section

open Idealize.ShloMosaic

namespace Cert.Loss

/-- A real, positive probability times `log p − y` splits, at every extended real `y`. -/
theorem split_term (p : ℝ) (hp : 0 < p) (y : EReal) : term p y = ((p * Real.log p : ℝ) : EReal) + y * ((-p : ℝ) : EReal) := by
  have hn : -p < 0 := neg_lt_zero.2 hp
  unfold term
  rw [if_pos hp]
  induction y with
  | bot => rw [EReal.bot_mul_coe_of_neg hn, EReal.coe_sub_bot, EReal.coe_mul_top_of_pos hp, EReal.coe_add_top]
  | top => rw [EReal.top_mul_coe_of_neg hn, EReal.sub_top, EReal.coe_mul_bot_of_pos hp, EReal.add_bot]
  | coe y =>
    rw [← EReal.coe_sub, ← EReal.coe_mul, ← EReal.coe_mul, ← EReal.coe_add]
    congr 1
    ring

/-- A sum of reals, as extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The part of a term that does not depend on the logit; in column 0, what makes up for the kernel's product there. -/
def base (k : BitVec 32) (a : ℝ) (l : ℕ) : ℝ := if l = 0 then 1 / 319980 * a else prob k l * Real.log (prob k l)

/-- The kernel's constant is the sum of `p · log p` over the columns but column 0. -/
theorem entropy_eq : 9 / 10 * Real.log (9 / 10) + 31998 * (1 / 319980 * Real.log (1 / 319980)) = entropy := by
  have h : Real.log (129140163 / 106660000000000) = 9 * Real.log (9 / 10) + Real.log (1 / 319980) := by
    rw [show (129140163 / 106660000000000 : ℝ) = (9 / 10) ^ 9 * (1 / 319980) by norm_num, Real.log_mul (by norm_num) (by norm_num), Real.log_pow]
    norm_num
  unfold entropy
  rw [h]
  ring

/-- The word of a column is the target word at one column, the target's. -/
theorem column_eq_iff (k : BitVec 32) (hk : k.toNat < 32000) (l : Fin 32000) : BitVec.ofNat 32 l.val = k ↔ l = ⟨k.toNat, hk⟩ := by
  have hl := l.isLt
  rw [← BitVec.toNat_inj, WordCmp.toNat_ofNat_of_lt (by omega), Fin.ext_iff]

/-- The sum of those parts along a row. -/
theorem sum_base (k : BitVec 32) (hk : k.toNat < 32000) (h0 : k ≠ 0#32) (a : ℝ) :
    ∑ l : Fin 32000, base k a l.val = entropy + 1 / 319980 * a := by
  have hK : (⟨k.toNat, hk⟩ : Fin 32000) ≠ 0 := fun e => h0 (BitVec.eq_of_toNat_eq (congrArg (fun q : Fin 32000 => q.val) e))
  have e : ∀ l : Fin 32000, base k a l.val = 1 / 319980 * Real.log (1 / 319980)
      + (if l = 0 then 1 / 319980 * a - 1 / 319980 * Real.log (1 / 319980) else 0)
      + (if l = ⟨k.toNat, hk⟩ then 9 / 10 * Real.log (9 / 10) - 1 / 319980 * Real.log (1 / 319980) else 0) := fun l => by
    have hl : l.val = 0 ↔ l = 0 := (Fin.ext_iff (a := l) (b := 0)).symm
    unfold base prob
    simp only [if_neg h0, column_eq_iff k hk, hl]
    by_cases h : l = 0
    · subst h
      rw [if_pos rfl, if_pos rfl, if_neg hK.symm]
      ring
    · simp only [if_neg h]
      split_ifs <;> ring
  rw [Finset.sum_congr rfl fun l _ => e l, Finset.sum_add_distrib, Finset.sum_add_distrib, Finset.sum_ite_eq' , Finset.sum_ite_eq',
    if_pos (Finset.mem_univ _), if_pos (Finset.mem_univ _), ← entropy_eq, Finset.sum_const, Finset.card_univ, Fintype.card_fin, nsmul_eq_mul]
  push_cast
  ring

/-- One entry: the reference's term is its base plus the logit times the kernel's weight. In column 0 the reference has 0,
    and the logit is real. -/
theorem term_eq (k : BitVec 32) (h0 : k ≠ 0#32) (a : ℝ) (l : ℕ) (y : EReal) (hy : l = 0 → y = (a : EReal)) :
    term (prob k l) y = ((base k a l : ℝ) : EReal) + y * weight k l := by
  unfold base weight
  by_cases hl : l = 0
  · subst hl
    have hk : ¬BitVec.ofNat 32 0 = k := fun e => h0 e.symm
    have hp : prob k 0 = 0 := by unfold prob; rw [if_neg h0, if_pos rfl]
    rw [hy rfl, hp, if_pos rfl, if_neg hk, ← EReal.coe_mul, ← EReal.coe_add]
    unfold term
    rw [if_neg (lt_irrefl _), show (1 / 319980 * a + a * (-1 / 319980) : ℝ) = 0 by ring]
    rfl
  · rw [if_neg hl]
    by_cases hk : BitVec.ofNat 32 l = k
    · have hp : prob k l = 9 / 10 := by unfold prob; rw [if_neg h0, if_neg hl, if_pos hk]
      rw [hp, if_pos hk, split_term _ (by norm_num)]
      norm_num
    · have hp : prob k l = 1 / 319980 := by unfold prob; rw [if_neg h0, if_neg hl, if_neg hk]
      rw [hp, if_neg hk, split_term _ (by norm_num), neg_div]

/-- The equation of one row: the target lies among the columns, and the logit in column 0 is real unless the row is
    padding. -/
theorem row_eq (k : BitVec 32) (hk : k.toNat < 32000) (y : Fin 32000 → EReal) (hy : k = 0#32 ∨ ∃ a : ℝ, y 0 = (a : EReal)) :
    kernelRow k y = ∑ l : Fin 32000, term (prob k l.val) (y l) := by
  unfold kernelRow
  by_cases h0 : k = 0#32
  · rw [if_pos h0]
    refine (Finset.sum_eq_zero fun l _ => ?_).symm
    unfold prob term
    rw [if_pos h0, if_neg (lt_irrefl _)]
  · obtain ⟨a, ha⟩ := hy.resolve_left h0
    rw [if_neg h0, Finset.sum_congr rfl fun l _ => term_eq k h0 a l.val (y l) (fun hl => (congrArg y (Fin.ext hl)).trans ha),
      Finset.sum_add_distrib, ← coe_sum, sum_base k hk h0 a]
    unfold once
    rw [if_neg h0, ha, ← EReal.coe_mul, ← EReal.coe_add]

end Cert.Loss

end
-- ==== Proof.Loss.Inputs.lean ====
/-
  What the precondition says of the inputs, read entry by entry: every target lies in 0 … 31999, and on every row that
  is not padding the logit in column 0 is a real number.
-/
module

public import proofs.«01_k».proof.Pre_in_range
public import proofs.«01_k».proof.Proof.Gen.Pre_in_range
public import Idealize.ShloMosaic.Lib.Pointwise
public import Idealize.ShloMosaic.Lib.WordCmp
public import Idealize.ShloMosaic.Lib.KernelVsHost

@[expose] public section

noncomputable section

open Idealize.ShloMosaic

namespace Cert.Pre_in_range.Loss

variable (x : FVec Ideal S4096x32000 .f32) (t : IVec S4096 32) (n : Fin 4096)

/-- The first third of the predicate: the target is not negative. -/
theorem lower : fn x t (ix1 (⟨n.val, by have := n.isLt; omega⟩ : Fin 12288)) = IntOp.cmpi .sge (t (ix1 n)) 0#32 := by
  unfold fn
  pointwise

/-- The second third: the target is below 32000. -/
theorem upper : fn x t (ix1 (⟨4096 + n.val, by have := n.isLt; omega⟩ : Fin 12288)) = IntOp.cmpi .slt (t (ix1 n)) 32000#32 := by
  unfold fn
  pointwise

/-- The last of three pieces of 4096 entries, read at its own entry. -/
theorem third [Facts] (a b c : IVec S4096 1) :
    concatenate S12288 0 [⟨S4096, a⟩, ⟨S4096, b⟩, ⟨S4096, c⟩] Facts.concatenates_S4096_S4096_S4096_S12288_d0
      (ix1 (⟨8192 + n.val, by have := n.isLt; omega⟩ : Fin 12288)) = c (ix1 n) := by
  pointwise
  have hn := n.isLt
  rw [dif_neg (by omega), dif_neg (by omega)]
  exact congrArg (fun k : Fin 4096 => c (ix1 k)) (Fin.ext (by show 8192 + n.val - 4096 - 4096 = n.val; omega))

/-- Column 0 of the logits, cut out and laid flat. -/
theorem column [Facts] : shapeCast S4096 (extractStridedSlice S4096x1 ![0, 0] x Facts.slices_S4096x32000_S4096x1_0_0)
    Facts.shapeCasts_S4096x1_S4096 (ix1 n) = x (ix2 n 0) := by
  pointwise

/-- The last third: the row is padding, or the logit in column 0 is below infinity in absolute value. -/
theorem finite : fn x t (ix1 (⟨8192 + n.val, by have := n.isLt; omega⟩ : Fin 12288))
    = IntOp.ori (IntOp.cmpi .eq (t (ix1 n)) 0#32)
        (FloatOps.cmpf .olt (FloatOps.hostAbsf (x (ix2 n 0))) (FloatOps.ofBits (F := Ideal) .f32 0x7F800000#32)) := by
  unfold fn
  refine (third n _ _ _).trans ?_
  exact congrArg (fun a : Ideal .f32 => IntOp.ori (IntOp.cmpi .eq (t (ix1 n)) 0#32)
    (FloatOps.cmpf .olt (FloatOps.hostAbsf a) (FloatOps.ofBits (F := Ideal) .f32 0x7F800000#32))) (column x n)

/-- A value whose absolute value is below infinity is a real number. -/
theorem real_of_below (v : EReal)
    (h : FloatOps.cmpf .olt (FloatOps.hostAbsf (v : Ideal .f32)) (FloatOps.ofBits (F := Ideal) .f32 0x7F800000#32) = 1#1) :
    ∃ a : ℝ, v = (a : EReal) := by
  have hw : IntOp.xori (BitVec.ofBool (decide (v = ⊤ ∨ v = ⊥))) 1#1 = 1#1 :=
    (Ideal.xori_weird_eq_hostAbsf_olt_inf v).trans h
  have hne : ¬ (v = ⊤ ∨ v = ⊥) := fun hv => by
    rw [decide_eq_true hv] at hw
    exact absurd hw (by decide)
  push Not at hne
  exact ⟨v.toReal, (EReal.coe_toReal hne.1 hne.2).symm⟩

variable {x t} (h : fn x t = fun _ => 1#1)

include h

/-- Under the precondition every target lies in 0 … 31999. -/
theorem target_lt : (t (ix1 n) : BitVec 32).toNat < 32000 := by
  have h0 := (lower x t n).symm.trans (congrFun h _)
  have h1 := (upper x t n).symm.trans (congrFun h _)
  rw [WordCmp.cmpi_sge_zero, WordCmp.ofBool_decide_eq_one_iff] at h0
  rw [WordCmp.cmpi_slt_eq, WordCmp.ofBool_decide_eq_one_iff,
    WordCmp.toInt_eq_toNat_of_lt_half (by simpa using h0)] at h1
  have h2 : (32000#32 : BitVec 32).toInt = 32000 := by decide
  omega

/-- Under the precondition a row that is not padding has a real logit in column 0. -/
theorem padding_or_real : t (ix1 n) = 0#32 ∨ ∃ a : ℝ, x (ix2 n 0) = (a : EReal) := by
  by_cases hk : t (ix1 n) = 0#32
  · exact .inl hk
  · have h0 := (finite x t n).symm.trans (congrFun h _)
    rw [WordCmp.cmpi_eq_eq, decide_eq_false hk] at h0
    exact .inr (real_of_below _ (by simpa [IntOp.ori] using h0))

end Cert.Pre_in_range.Loss

end
-- ==== Proof.lean ====
/-
  The assembly. The kernel as printed and its idealized form both run to the end and leave their arguments as they were
  (the generated launch); so does the reference (its run, operation by operation). The four named constants have
  the exact values their names are given. And on targets in range the idealized kernel's loss is the reference's: both are sums over the
  rows, and each row's two sums agree (Proof/Loss/Row.lean).
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_in_range
public import proofs.«01_k».proof.Proof.Loss.Row
public import proofs.«01_k».proof.Proof.Loss.Inputs
public import Idealize.ShloMosaic.Lib.Quiescent
public import Idealize.ShloMosaic.Adequacy
public import Idealize.ShloMosaic.Init

@[expose] public section

noncomputable section

namespace Cert.Proof

open Idealize.ShloMosaic Idealize.SL.Sem

attribute [local instance] Cert.Kernel.Gen.facts Cert.KernelIdeal.Gen.facts Cert.ReferenceIdeal.Gen.facts
  Cert.Pre_in_range.Gen.facts

/-- The kernel as printed runs to the end, its arguments kept and every counter at zero. -/
theorem kernel_frame : Cert.quiescent_Kernel := fun m ρ _ => Cert.Kernel.Gen.frame m ρ

/-- So does its idealized form. -/
theorem ideal_frame : Cert.quiescent_KernelIdeal := fun m ρ _ => Cert.KernelIdeal.Gen.frame m ρ

/-- So it does under the precondition, which it does not need. -/
theorem ideal_frame_in_range : Cert.quiescent_KernelIdeal_pre_in_range := fun m ρ _ => Cert.KernelIdeal.Gen.frame m ρ

/-- The reference runs to the end with its arguments kept; it declares no semaphore, so no counter can be off zero. -/
theorem reference_ends (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, ρ⟩ fun r => (∀ c : Dev Cert.ReferenceIdeal.nD,
        r.2.mem ((c.tc : Thread Cert.ReferenceIdeal.nD Cert.ReferenceIdeal.τ).loc Cert.ReferenceIdeal.main_arg0)
          = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1)
          = m ((c.tc : Thread Cert.ReferenceIdeal.nD Cert.ReferenceIdeal.τ).loc Cert.ReferenceIdeal.main_arg1))
      ∧ r.2.sem = fun _ => 0 :=
  (θ_run _ _ _).mono (fun r h => ⟨fun c => (h c).2, sem_eq_zero_of_no_sems (by decide) r.2⟩)
    (Cert.ReferenceIdeal.Value.run m ρ)

/-- The reference's frame. -/
theorem reference_frame : Cert.quiescent_ReferenceIdeal := fun m ρ _ => reference_ends m ρ

/-- The reference's frame under the precondition. -/
theorem reference_frame_in_range : Cert.quiescent_ReferenceIdeal_pre_in_range := fun m ρ _ => reference_ends m ρ

/-- Each of the four constants the kernel prints reads, in its idealized form, as the real number its name stands for. -/
theorem preserves : Cert.preserves_Kernel_KernelIdeal :=
  ⟨IdealRules.named_const.statement Cert.KernelIdeal.κ "neg_conf" .f32 0xBF666666#32 _ rfl,
    IdealRules.named_const.statement Cert.KernelIdeal.κ "neg_eps" .f32 0xB651BA72#32 _ rfl,
    IdealRules.named_const.statement Cert.KernelIdeal.κ "eps" .f32 0x3651BA72#32 _ rfl,
    IdealRules.named_const.statement Cert.KernelIdeal.κ "c0" .f32 0xBFAE63F8#32 _ rfl⟩

/-- On inputs the precondition admits, the reference's loss is the sum of the kernel's rows. -/
theorem loss_eq (x : FVec Ideal ⟨2, ![4096, 32000]⟩ .f32) (t : IVec ⟨1, ![4096]⟩ 32)
    (h : Cert.Pre_in_range.fn (F := Ideal) x t = fun _ => 1#1) :
    Cert.ReferenceIdeal.Read.val_main_v36 (F := Ideal) x t
      = fun _ => (∑ i : Fin 4096, Cert.Loss.kernelRow (t (ix1 i)) fun l => x (ix2 i l) : EReal) := by
  rw [Cert.ReferenceIdeal.Loss.total x t fun n => Cert.Pre_in_range.Loss.target_lt n h]
  funext _
  exact Finset.sum_congr rfl fun i _ => (Cert.Loss.row_eq _ (Cert.Pre_in_range.Loss.target_lt i h) _
    (Cert.Pre_in_range.Loss.padding_or_real i h)).symm

/-- The value claim: kernel and reference end with the same loss. -/
theorem algebraic : Cert.algebraic_KernelIdeal_ReferenceIdeal_pre_in_range := by
  intro m g m' g' hpre hargs
  refine ⟨_, Cert.KernelIdeal.Loss.run m g, (θ_run _ _ _).mono (fun r h c => ⟨?_, (h c).2⟩)
    (Cert.ReferenceIdeal.Value.run m' g')⟩
  refine ((h c).1.trans (Cert.ReferenceIdeal.Read.val_main_v36_eq m' c)).trans ?_
  rw [(hargs c).1, (hargs c).2]
  exact loss_eq _ _ (hpre c)

/-- The certificate's claim. -/
theorem claim : Cert.Claim :=
  ⟨Cert.Kernel.Gen.facts, Cert.KernelIdeal.Gen.facts, Cert.ReferenceIdeal.Gen.facts, Cert.Pre_in_range.Gen.facts,
    kernel_frame, ideal_frame, ideal_frame_in_range, reference_frame, reference_frame_in_range, preserves, algebraic⟩

end Cert.Proof

end
